-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x384x384x192 : Shape := ⟨4, ![4, 384, 384, 192]⟩
abbrev S4x384x384 : Shape := ⟨3, ![4, 384, 384]⟩
abbrev S1x16x384x192 : Shape := ⟨4, ![1, 16, 384, 192]⟩
abbrev S1x16x384 : Shape := ⟨3, ![1, 16, 384]⟩
abbrev S1 : Shape := ⟨1, ![1]⟩
abbrev S16x384x192 : Shape := ⟨3, ![16, 384, 192]⟩
abbrev S16x384x1 : Shape := ⟨3, ![16, 384, 1]⟩
abbrev S16x384 : Shape := ⟨2, ![16, 384]⟩
abbrev S384x384 : Shape := ⟨2, ![384, 384]⟩
abbrev S16x1 : Shape := ⟨2, ![16, 1]⟩
abbrev S16x16 : Shape := ⟨2, ![16, 16]⟩
abbrev S1x1x1 : Shape := ⟨3, ![1, 1, 1]⟩
abbrev S4x384x384x1 : Shape := ⟨4, ![4, 384, 384, 1]⟩

abbrev nBuf : Space → Nat
  | .hbm => 4
  | .vmem => 6
  | .smem => 1
  | _ => 0

abbrev bufTy : (tb : Table) → Fin (tcTables nBuf tb) → BufTy
  | .hbm, ⟨0, _⟩ => ⟨S4x384x384x192, .f32⟩
  | .hbm, ⟨1, _⟩ => ⟨S4x384x384x192, .f32⟩
  | .hbm, ⟨2, _⟩ => ⟨S4x384x384, .f32⟩
  | .hbm, ⟨3, _⟩ => ⟨S4x384x384x1, .f32⟩
  | .local _ .vmem, ⟨0, _⟩ => ⟨S1x16x384x192, .f32⟩
  | .local _ .vmem, ⟨1, _⟩ => ⟨S1x16x384x192, .f32⟩
  | .local _ .vmem, ⟨2, _⟩ => ⟨S1x16x384x192, .f32⟩
  | .local _ .vmem, ⟨3, _⟩ => ⟨S1x16x384x192, .f32⟩
  | .local _ .vmem, ⟨4, _⟩ => ⟨S1x16x384, .f32⟩
  | .local _ .vmem, ⟨5, _⟩ => ⟨S1x16x384, .f32⟩
  | .local _ .smem, ⟨0, _⟩ => ⟨S1, .f32⟩
  | _, _ => ⟨S4x384x384x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 24], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x384x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x384x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x384x384x192 : Shape := ⟨4, ![4, 384, 384, 192]⟩
abbrev S4x384x384x1 : Shape := ⟨4, ![4, 384, 384, 1]⟩
abbrev S4x384x384 : Shape := ⟨3, ![4, 384, 384]⟩
abbrev S_ : Shape := ⟨0, ![]⟩
abbrev S4x147456 : Shape := ⟨2, ![4, 147456]⟩

abbrev nBuf : Space → Nat
  | .hbm => 22
  | .vmem => 0
  | .smem => 0
  | _ => 0

abbrev bufTy : (tb : Table) → Fin (tcTables nBuf tb) → BufTy
  | .hbm, ⟨0, _⟩ => ⟨S4x384x384x192, .f32⟩
  | .hbm, ⟨1, _⟩ => ⟨S4x384x384x1, .f32⟩
  | .hbm, ⟨2, _⟩ => ⟨S4x384x384, .f32⟩
  | .hbm, ⟨3, _⟩ => ⟨S_, .f32⟩
  | .hbm, ⟨4, _⟩ => ⟨S4x384x384, .f32⟩
  | .hbm, ⟨5, _⟩ => ⟨S4x384x384, .i1⟩
  | .hbm, ⟨6, _⟩ => ⟨S4x384x384, .i32⟩
  | .hbm, ⟨7, _⟩ => ⟨S4x147456, .i32⟩
  | .hbm, ⟨8, _⟩ => ⟨S_, .i32⟩
  | .hbm, ⟨9, _⟩ => ⟨S_, .i32⟩
  | .hbm, ⟨10, _⟩ => ⟨S4x147456, .i32⟩
  | .hbm, ⟨11, _⟩ => ⟨S_, .i32⟩
  | .hbm, ⟨12, _⟩ => ⟨S4x147456, .i32⟩
  | .hbm, ⟨13, _⟩ => ⟨S4x147456, .i1⟩
  | .hbm, ⟨14, _⟩ => ⟨S_, .i32⟩
  | .hbm, ⟨15, _⟩ => ⟨S4x147456, .i32⟩
  | .hbm, ⟨16, _⟩ => ⟨S4x147456, .i1⟩
  | .hbm, ⟨17, _⟩ => ⟨S4x147456, .i1⟩
  | .hbm, ⟨18, _⟩ => ⟨S4x147456, .f32⟩
  | .hbm, ⟨19, _⟩ => ⟨S4x384x384x1, .f32⟩
  | .hbm, ⟨20, _⟩ => ⟨S4x384x384x192, .f32⟩
  | .hbm, ⟨21, _⟩ => ⟨S4x384x384x192, .f32⟩
  | _, _ => ⟨S4x384x384x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_call0_c : Ref sig .tc := ⟨.hbm, 8, rfl⟩
abbrev main_call0_call0_v0 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Count.lean ====
module

public import Idealize.ShloMosaic.Lib.Pointwise
public import Idealize.ShloMosaic.PureOps.Ideal

@[expose] public section

set_option maxRecDepth 16384

/-!
# The counting both programs do

One image of the batch is 384 rows of 384 positions. Its positions are numbered row by row, and
position `n` is flagged when its first channel lies above one half. A flagged position is kept as
long as at most 4096 positions are flagged up to and including it. This module states that in
natural numbers and gives the sums by which the kernel reaches the same count block by block.
-/

noncomputable section

namespace Cert.Count

open Idealize.ShloMosaic

/-- The threshold: the extended real that the word of one half encodes. -/
def half : EReal := Ideal.ofBits .f32 0x3F000000#32

/-- The flag of position `n`: 1 if the first channel there exceeds the threshold, else 0; 0 also
past the end of the image. -/
def fl (a : Fin 384 → Fin 384 → EReal) (n : ℕ) : ℕ :=
  if h : n < 147456 then
    (if half < a ⟨n / 384, by omega⟩ ⟨n % 384, by omega⟩ then 1 else 0)
  else 0

/-- The number of flagged positions among the first `n`. -/
def cnt (a : Fin 384 → Fin 384 → EReal) (n : ℕ) : ℕ := ∑ k ∈ Finset.range n, fl a k

/-- The mask: 1 where the position is flagged and no more than 4096 are flagged up to it, 0
elsewhere. -/
def mask (a : Fin 384 → Fin 384 → EReal) (h w : Fin 384) : EReal :=
  if half < a h w ∧ cnt a (384 * h.val + w.val + 1) ≤ 4096 then 1 else 0

/-- The flag of row `h`, column `w`. -/
theorem fl_at (a : Fin 384 → Fin 384 → EReal) (h w : Fin 384) (n : ℕ)
    (hn : n = 384 * h.val + w.val) : fl a n = if half < a h w then 1 else 0 := by
  have hh := h.isLt
  have hw := w.isLt
  have e1 : n / 384 = h.val := by omega
  have e2 : n % 384 = w.val := by omega
  have lt : n < 147456 := by omega
  unfold fl
  rw [dif_pos lt]
  have f1 : (⟨n / 384, by omega⟩ : Fin 384) = h := Fin.ext e1
  have f2 : (⟨n % 384, by omega⟩ : Fin 384) = w := Fin.ext e2
  rw [f1, f2]

/-- A flag is at most 1. -/
theorem fl_le (a : Fin 384 → Fin 384 → EReal) (n : ℕ) : fl a n ≤ 1 := by
  unfold fl
  split_ifs <;> omega

/-- At most as many positions are flagged as there are. -/
theorem cnt_le (a : Fin 384 → Fin 384 → EReal) (n : ℕ) : cnt a n ≤ n := by
  unfold cnt
  calc ∑ k ∈ Finset.range n, fl a k ≤ ∑ _k ∈ Finset.range n, 1 :=
        Finset.sum_le_sum fun k _ => fl_le a k
    _ = n := by simp

/-- The count over `n + m` positions is the count over `n` and the flags of the next `m`. -/
theorem cnt_add (a : Fin 384 → Fin 384 → EReal) (n m : ℕ) :
    cnt a (n + m) = cnt a n + ∑ k ∈ Finset.range m, fl a (n + k) := by
  unfold cnt
  exact Finset.sum_range_add _ _ _

/-- Summing `r` whole rows of `N` from position `n` is summing `N * r` positions. -/
theorem sum_rows (N : ℕ) (g : ℕ → ℕ) (n r : ℕ) :
    ∑ i ∈ Finset.range r, ∑ k ∈ Finset.range N, g (n + N * i + k)
      = ∑ k ∈ Finset.range (N * r), g (n + k) := by
  induction r with
  | zero => simp
  | succ r ih =>
    rw [Finset.sum_range_succ _ r, ih, Nat.mul_succ, Finset.sum_range_add]
    congr 1
    exact Finset.sum_congr rfl fun k _ => by rw [Nat.add_assoc]

/-- A sum over the first `w + 1` of `N` terms, written with an indicator in the extended reals. -/
theorem sum_upto {N : ℕ} (g : ℕ → ℕ) (m : ℕ) (hm : m ≤ N) :
    ∑ x : Fin N, ((g x.val : ℕ) : EReal) * (if x.val < m then (1 : EReal) else 0)
      = ((∑ k ∈ Finset.range m, g k : ℕ) : EReal) := by
  have e : ∀ x : Fin N, ((g x.val : ℕ) : EReal) * (if x.val < m then (1 : EReal) else 0)
      = ((if x.val < m then g x.val else 0 : ℕ) : EReal) := by
    intro x
    by_cases h : x.val < m <;> simp [h]
  rw [Finset.sum_congr rfl fun x _ => e x, ← Nat.cast_sum,
    Fin.sum_univ_eq_sum_range (fun k => if k < m then g k else 0) N]
  congr 1
  rw [← Finset.sum_filter]
  refine Finset.sum_congr ?_ fun _ _ => rfl
  ext k
  simp only [Finset.mem_filter, Finset.mem_range]
  omega

/-- A one-bit word widened and read as a signed number is 1 or 0 as the proposition holds. -/
theorem bit_signed (p : Bool) :
    (FloatOps.sitofp .f32 (BitVec.setWidth 32 (BitVec.ofBool p)) : Ideal .f32)
      = if p = true then (1 : EReal) else 0 := by
  cases p
  · show ((((BitVec.setWidth 32 (BitVec.ofBool false)).toInt : ℝ)) : EReal) = _
    simp
  · show ((((BitVec.setWidth 32 (BitVec.ofBool true)).toInt : ℝ)) : EReal) = _
    simp

/-- A one-bit word read as an unsigned number is 1 or 0. -/
theorem bit_unsigned (p : Bool) :
    (FloatOps.uitofp .f32 (BitVec.ofBool p) : Ideal .f32)
      = if p = true then (1 : EReal) else 0 := by
  cases p
  · show ((((BitVec.ofBool false).toNat : ℝ)) : EReal) = _
    simp
  · show ((((BitVec.ofBool true).toNat : ℝ)) : EReal) = _
    simp

/-- A natural number below `2 ^ 31` reads the same as a signed word. -/
theorem toInt_small (x : ℕ) (hx : x < 2 ^ 31) : (BitVec.ofNat 32 x).toInt = (x : ℤ) := by
  rw [BitVec.toInt_eq_toNat_of_lt] <;> rw [BitVec.toNat_ofNat, Nat.mod_eq_of_lt (by omega)]
  omega

/-- The signed comparison "at most" of two small words. -/
theorem sle_small (x y : ℕ) (hx : x < 2 ^ 31) (hy : y < 2 ^ 31) :
    IntOp.cmpi .sle (BitVec.ofNat 32 x) (BitVec.ofNat 32 y) = BitVec.ofBool (decide (x ≤ y)) := by
  show BitVec.ofBool ((BitVec.ofNat 32 x).sle (BitVec.ofNat 32 y)) = _
  rw [BitVec.sle, toInt_small x hx, toInt_small y hy]
  simp

/-- The signed comparison "less than" of two small words. -/
theorem slt_small (x y : ℕ) (hx : x < 2 ^ 31) (hy : y < 2 ^ 31) :
    IntOp.cmpi .slt (BitVec.ofNat 32 x) (BitVec.ofNat 32 y) = BitVec.ofBool (decide (x < y)) := by
  show BitVec.ofBool ((BitVec.ofNat 32 x).slt (BitVec.ofNat 32 y)) = _
  rw [BitVec.slt, toInt_small x hx, toInt_small y hy]
  simp

/-- The word of the quota encodes 4096. -/
theorem quota : Ideal.ofBits .f32 0x45800000#32 = ((4096 : ℕ) : EReal) := by
  have e : Ideal.ofBits .f32 0x45800000#32 = (((8388608 : ℝ) * (2 ^ 11)⁻¹ : ℝ) : EReal) := by
    simp [Ideal.ofBits, Ideal.ieee]
  rw [e, show ((8388608 : ℝ) * (2 ^ 11)⁻¹ : ℝ) = ((4096 : ℕ) : ℝ) by norm_num]
  exact EReal.coe_natCast

end Cert.Count

end
-- ==== Proof.RefValue.lean ====
module

public import proofs.«01_k».proof.Proof.Gen.ReferenceIdeal.Run
public import proofs.«01_k».proof.Proof.Count
public import Idealize.ShloMosaic.Lib.Pointwise
public import Idealize.ShloMosaic.Lib.Routing.Ops

@[expose] public section

set_option maxRecDepth 16384

/-!
# The reference, entry by entry

The reference flattens each image to a row of 147456 flags, takes the running sum of every row in
32-bit integers, and keeps the flagged positions whose running sum is at most 4096. Here its two
results are read at an index: the mask is `Count.mask` of the image's first channel, and the other
result is the argument times that mask.
-/

noncomputable section

namespace Cert.ReferenceIdeal.Read

open Cert.ReferenceIdeal Cert.ReferenceIdeal.Gen Idealize.ShloMosaic Idealize.ShloMosaic.TcCoe
  Idealize.SL.Sem

/-- A sum over a list of the first naturals is the sum over their finite set. -/
theorem list_sum (f : ℕ → ℕ) (n : ℕ) :
    ((List.range n).map f).sum = ∑ k ∈ Finset.range n, f k := by
  induction n with
  | zero => rfl
  | succ n ih =>
    rw [List.range_succ, List.map_append, List.sum_append, ih, Finset.sum_range_succ]
    simp

/-- The running sum along the rows of a `[B, N]` array of words: where entry `(b, i)` holds the
natural number `f b i`, entry `(b, j)` of the result holds `f b 0 + … + f b j`. -/
theorem rows_cumsum {B N M : ℕ} (hN : M + 1 = N) (x : IVec (Routing.shape2 B N) 32)
    (f : Fin B → ℕ → ℕ) (hx : ∀ (b : Fin B) (i : Fin N), x (ix2 b i) = BitVec.ofNat 32 (f b i.val))
    (init : IVec Routing.shape0 32) (hinit : init ix0 = 0#32)
    (h : (Routing.shape2 B N).ReduceWindows (![1, N] : Fin 2 → ℕ) ![1, 1] ![0, M] ![0, 0]
      (Routing.shape2 B N))
    (hu : 0 < Routing.shape0.numel) (b : Fin B) (j : Fin N) :
    Host.reduceWindow IntOp.addi ![1, N] ![1, 1] ![0, M] ![0, 0] x init h hu (ix2 b j)
      = BitVec.ofNat 32 (∑ k ∈ Finset.range (j.val + 1), f b k) := by
  subst hN
  have hj := j.isLt
  have zero : init (Shape.Idx.first hu) = BitVec.ofNat 32 0 :=
    (congrArg init (funext fun a => a.elim0)).trans hinit
  -- the term the window adds at its position `n`
  let term : ℕ → ℕ := fun n => if M ≤ j.val + n then f b (j.val + n - M) else 0
  have place : ∀ n : Fin (Routing.shape2 1 (M + 1)).numel,
      ((Routing.shape2 1 (M + 1)).rowMajor.symm n 0).val = 0
        ∧ ((Routing.shape2 1 (M + 1)).rowMajor.symm n 1).val = n.val := fun n => by
    rw [Routing.symm2]
    exact ⟨rfl, rfl⟩
  unfold Host.reduceWindow
  refine (Routing.foldl_addi_ofNat _ _ (fun n => term n.val) (fun n _ => ?_) _ 0 zero).trans ?_
  · obtain ⟨at0, at1⟩ := place n
    have hn : n.val < M + 1 := (n.cast (Routing.numel2 _)).isLt
    show _ = BitVec.ofNat 32 (if M ≤ j.val + n.val then f b (j.val + n.val - M) else 0)
    dsimp only
    split
    · next inside =>
      have in1 : M ≤ j.val * 1 + ((Routing.shape2 1 (M + 1)).rowMajor.symm n 1).val
          ∧ j.val * 1 + ((Routing.shape2 1 (M + 1)).rowMajor.symm n 1).val - M < M + 1 := inside 1
      rw [at1] at in1
      rw [if_pos (by omega)]
      have pos : j.val + n.val - M < M + 1 := by omega
      refine Eq.trans ?_ (hx b ⟨j.val + n.val - M, pos⟩)
      refine congrArg x (funext fun a => Fin.ext ?_)
      match a with
      | ⟨0, _⟩ =>
        show b.val * 1 + ((Routing.shape2 1 (M + 1)).rowMajor.symm n 0).val - 0 = b.val
        omega
      | ⟨1, _⟩ =>
        show j.val * 1 + ((Routing.shape2 1 (M + 1)).rowMajor.symm n 1).val - M = j.val + n.val - M
        omega
    · next outside =>
      have below : ¬ M ≤ j.val + n.val := fun le => outside fun a => by
        match a with
        | ⟨0, _⟩ =>
          have hb := b.isLt
          show 0 ≤ b.val * 1 + ((Routing.shape2 1 (M + 1)).rowMajor.symm n 0).val
            ∧ b.val * 1 + ((Routing.shape2 1 (M + 1)).rowMajor.symm n 0).val - 0 < B
          omega
        | ⟨1, _⟩ =>
          show M ≤ j.val * 1 + ((Routing.shape2 1 (M + 1)).rowMajor.symm n 1).val
            ∧ j.val * 1 + ((Routing.shape2 1 (M + 1)).rowMajor.symm n 1).val - M < M + 1
          omega
      rw [if_neg below]
      exact zero
  · rw [Nat.zero_add, Routing.map_finRange_val _ term, Routing.numel2 (M + 1), ← list_sum]
    exact congrArg _ (Routing.sum_window (f b) M j.val (by omega))

/-- The flags of all images, each image one row. -/
def flags (A : FVec Ideal S4x384x384x192 .f32) : IVec S4x147456 32 :=
  shapeCast _ (extui 32 (cmpf .ogt
    (shapeCast _ (extractStridedSlice S4x384x384x1 ![0, 0, 0, 0] A
      slices_S4x384x384x192_S4x384x384x1_0_0_0_0) shapeCasts_S4x384x384x1_S4x384x384)
    (broadcastInDim S4x384x384 ![] bcast_S_S4x384x384 (constant S_ .f32 0x3F000000#32))) natLt_1_32)
    shapeCasts_S4x384x384_S4x147456

/-- The running sum of the flags along each row. -/
def counts (A : FVec Ideal S4x384x384x192 .f32) : IVec S4x147456 32 :=
  Host.reduceWindow IntOp.addi ![1, 147456] ![1, 1] ![0, 147455] ![0, 0] (flags A)
    (broadcastInDim S_ ![] bcast_S_S_ (constantI S_ 32 0#32))
    reduceWindows_S4x147456_S4x147456_w1s1p0_0_w147456s1p147455_0 h_S_

/-- The reference's mask. -/
def maskOf (A : FVec Ideal S4x384x384x192 .f32) : FVec Ideal S4x384x384x1 .f32 :=
  shapeCast _ (uitofp .f32 (andi
    (cmpi .eq (flags A) (broadcastInDim S4x147456 ![] bcast_S_S4x147456 (constantI S_ 32 1#32)))
    (cmpi .sle (counts A)
      (broadcastInDim S4x147456 ![] bcast_S_S4x147456 (constantI S_ 32 4096#32)))))
    shapeCasts_S4x147456_S4x384x384x1

/-- The reference's masked array. -/
def outOf (A : FVec Ideal S4x384x384x192 .f32) : FVec Ideal S4x384x384x192 .f32 :=
  mulf A (broadcastInDim S4x384x384x192 ![0, 1, 2, 3]
    bcast_S4x384x384x1_S4x384x384x192_0_1_2_3 (maskOf A))

/-- The first channel of image `b`. -/
def chan (A : FVec Ideal S4x384x384x192 .f32) (b : Fin 4) : Fin 384 → Fin 384 → EReal :=
  fun h w => A (ix4 b h w 0)

/-- The reference's flag of position `n` of image `b`. -/
theorem flags_at (A : FVec Ideal S4x384x384x192 .f32) (b : Fin 4) (n : Fin 147456) :
    flags A (ix2 b n) = BitVec.ofNat 32 (Count.fl (chan A b) n.val) := by
  pointwise [flags]
  have hn := n.isLt
  unfold Count.fl
  rw [dif_pos hn]
  unfold chan Count.half
  by_cases p : Ideal.ofBits FTy.f32 1056964608#32
      < A (ix4 b ⟨n.val / 384, by omega⟩ ⟨n.val % 384, by omega⟩ 0)
  · rw [if_pos p, decide_eq_true p]
    rfl
  · rw [if_neg p, decide_eq_false p]
    rfl

/-- The reference's running sum at position `n` of image `b` counts the flags up to it. -/
theorem counts_at (A : FVec Ideal S4x384x384x192 .f32) (b : Fin 4) (n : Fin 147456) :
    counts A (ix2 b n) = BitVec.ofNat 32 (Count.cnt (chan A b) (n.val + 1)) :=
  rows_cumsum (B := 4) (N := 147456) (M := 147455) rfl (flags A) (fun b => Count.fl (chan A b))
    (flags_at A) _ rfl _ _ b n

/-- Two one-bit words of propositions combine to the word of their conjunction. -/
theorem and_bits (p q : Bool) :
    IntOp.andi (BitVec.ofBool p) (BitVec.ofBool q) = BitVec.ofBool (p && q) := by
  cases p <;> cases q <;> rfl

/-- A flag compared with 1. -/
theorem flag_is_one (k : ℕ) (hk : k ≤ 1) :
    IntOp.cmpi .eq (BitVec.ofNat 32 k) 1#32 = BitVec.ofBool (decide (k = 1)) := by
  obtain rfl | rfl : k = 0 ∨ k = 1 := by omega
  · rfl
  · rfl

/-- The reference's mask at row `h`, column `w` of image `b`. -/
theorem mask_at (A : FVec Ideal S4x384x384x192 .f32) (b : Fin 4) (h w : Fin 384) :
    maskOf A (ix4 b h w 0) = Count.mask (chan A b) h w := by
  have hh := h.isLt
  have hw := w.isLt
  pointwise [maskOf]
  rw [flags_at, counts_at, flag_is_one _ (Count.fl_le _ _)]
  show FloatOps.uitofp .f32 (IntOp.andi _ (IntOp.cmpi .sle _ (BitVec.ofNat 32 4096))) = _
  have small := Count.cnt_le (chan A b) (h.val * 384 + w.val + 1)
  rw [Count.sle_small _ _ (lt_of_le_of_lt small (by omega)) (by norm_num), and_bits,
    Count.bit_unsigned]
  unfold Count.mask
  rw [Count.fl_at (chan A b) h w (h.val * 384 + w.val) (by omega),
    show h.val * 384 + w.val + 1 = 384 * h.val + w.val + 1 by omega]
  by_cases p : Count.half < chan A b h w <;> simp [p]

/-- The reference's masked array at an index. -/
theorem out_at (A : FVec Ideal S4x384x384x192 .f32) (b : Fin 4) (h w : Fin 384) (l : Fin 192) :
    outOf A (ix4 b h w l) = A (ix4 b h w l) * Count.mask (chan A b) h w := by
  pointwise [outOf]
  rw [mask_at]

/-- Every run of the reference ends with its two results at `outOf` and `maskOf` of the argument,
and the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = outOf (m ((c.tc : Thread nD τ).loc main_arg0))
      ∧ r.2.mem ((c.tc : Thread nD τ).loc main_v13)
          = maskOf (m ((c.tc : Thread nD τ).loc main_arg0))
      ∧ r.2.mem ((c.tc : Thread nD τ).loc main_arg0) = m ((c.tc : Thread nD τ).loc main_arg0) :=
  Cert.ReferenceIdeal.Value.run m ρ

end Cert.ReferenceIdeal.Read

end
-- ==== Proof.Cases.lean ====
module

public import proofs.«01_k».proof.Proof.Gen.KernelIdeal.Frame
public import Idealize.ShloMosaic.Lib.Pipeline.Value
public import Idealize.ShloMosaic.Lib.StableHlo.Run
public import Idealize.ShloMosaic.Lib.Tactic
public import Idealize.ShloMosaic.Lib.Pointwise

@[expose] public section

set_option maxRecDepth 16384

/-!
# What one run of the kernel body leaves

The body runs in two ways: at the first block of an image it first sets the carry to zero (case A),
at the others it takes over the carry of the block before (case B). Either way it leaves the masked
block, the mask block, and the carry plus the block's flags.
-/

noncomputable section

namespace Cert.KernelIdeal.Cases

open Cert.KernelIdeal Cert.KernelIdeal.Gen Idealize.ShloMosaic Idealize.ShloMosaic.TcCoe
  Idealize.SL.Sem

variable {F : FTy → Type} [FloatOps F]

/-- The written offsets of a whole store are all zero. -/
theorem zeros4 : (![0, 0, 0, 0] : Fin 4 → ℕ) = fun _ => 0 := funext fun a => by fin_cases a <;> rfl
/-- The same with three axes. -/
theorem zeros3 : (![0, 0, 0] : Fin 3 → ℕ) = fun _ => 0 := funext fun a => by fin_cases a <;> rfl
/-- The same with one axis. -/
theorem zeros1 : (![0] : Fin 1 → ℕ) = fun _ => 0 := funext fun a => by fin_cases a <;> rfl

/-- A one-entry vector has the same value at every index. -/
theorem only (s : Vec F S1 .f32) (i : S1.Idx) : s i = s (ix1 0) :=
  congrArg s (funext fun a => Fin.ext (by
    match a with
    | ⟨0, _⟩ =>
      have h : (i 0).val < 1 := (i 0).isLt
      show (i 0).val = 0
      omega))

section CaseB

variable (c : Dev nD) (i : grid0.Coords)
  (a2 : Memref sig .tc .vmem S1x16x384x192 .f32) (h2 : a2.IsWhole)
  (a3 : Memref sig .tc .vmem S1x16x384x192 .f32) (h3 : a3.IsWhole)
  (a4 : Memref sig .tc .vmem S1x16x384 .f32) (h4 : a4.IsWhole)
  (a5 : Memref sig .tc .smem S1 .f32) (h5 : a5.IsWhole) (hc : ¬cond0_0 i)
  (x : Vec F S1x16x384x192 .f32) (s : Vec F S1 .f32)

/-- Case B, masked block: the input block times the mask the carry `s` gives. -/
theorem outB : out0_B_1 c i a2 h2 a3 h3 a4 h4 a5 h5 hc x s
    = k0_pay1 (k0_pay7 (s (ix1 0)) x) := by
  unfold out0_B_1
  rw [View.read_writes_eq_canon _ _ _ (cover0_B_1 c i a2 h2 a3 h3 a4 h4 a5 h5 hc x s)]
  unfold kernelRun0_B
  dsimp only
  sl_unfold_words
  rw [View.canon_unit_zero zeros4]
  simp only [View.readAt_eq_ld, h2.read_unread, h5.read_unread, View.ld_unit_zero (S := S1x16x384x192) zeros4, View.ld_unit_zero (S := S1) zeros1]
  exact congrArg (fun v => k0_pay1 (k0_pay7 v x)) (only s _)

/-- Case B, mask block. -/
theorem maskB : out0_B_2 c i a2 h2 a3 h3 a4 h4 a5 h5 hc x s = k0_pay6 (s (ix1 0)) x := by
  unfold out0_B_2
  rw [View.read_writes_eq_canon _ _ _ (cover0_B_2 c i a2 h2 a3 h3 a4 h4 a5 h5 hc x s)]
  unfold kernelRun0_B
  dsimp only
  sl_unfold_words
  rw [View.canon_unit_zero zeros3]
  simp only [View.readAt_eq_ld, h2.read_unread, h5.read_unread, View.ld_unit_zero (S := S1x16x384x192) zeros4, View.ld_unit_zero (S := S1) zeros1]
  exact congrArg (fun v => k0_pay6 v x) (only s _)

/-- Case B, carry: the carry before plus the block's flags. -/
theorem carryB : sout0_B_0 c i a2 h2 a3 h3 a4 h4 a5 h5 hc x s
    = fun _ => k0_pay2 (s (ix1 0)) (k0_pay4 x) := by
  unfold sout0_B_0
  rw [View.read_writes_eq_canon _ _ _ (scover0_B_0 c i a2 h2 a3 h3 a4 h4 a5 h5 hc x s)]
  unfold kernelRun0_B
  dsimp only
  sl_unfold_words
  rw [View.canon_unit_zero zeros1]
  simp only [View.readAt_eq_ld, h2.read_unread, h5.read_unread, View.ld_unit_zero (S := S1x16x384x192) zeros4, View.ld_unit_zero (S := S1) zeros1]
  exact funext fun _ => congrArg (fun v => k0_pay2 v (k0_pay4 x)) (only s _)

end CaseB

section CaseA

variable (c : Dev nD) (i : grid0.Coords)
  (a2 : Memref sig .tc .vmem S1x16x384x192 .f32) (h2 : a2.IsWhole)
  (a3 : Memref sig .tc .vmem S1x16x384x192 .f32) (h3 : a3.IsWhole)
  (a4 : Memref sig .tc .vmem S1x16x384 .f32) (h4 : a4.IsWhole)
  (a5 : Memref sig .tc .smem S1 .f32) (h5 : a5.IsWhole) (hc : cond0_0 i)
  (x : Vec F S1x16x384x192 .f32)

/-- The carry the first block of an image starts from. -/
abbrev zero : F .f32 := Scalar.ofBits .f32 0x00000000#32

/-- Case A, masked block: as in case B from a carry of zero. -/
theorem outA : out0_A_1 c i a2 h2 a3 h3 a4 h4 a5 h5 hc x = k0_pay1 (k0_pay7 zero x) := by
  unfold out0_A_1
  rw [View.read_writes_eq_canon _ _ _ (cover0_A_1 c i a2 h2 a3 h3 a4 h4 a5 h5 hc x)]
  unfold kernelRun0_A
  dsimp only
  sl_unfold_words
  rw [View.canon_unit_zero zeros4]
  simp only [View.readAt_eq_ld, h2.read_unread, View.ld_unit_zero (S := S1x16x384x192) zeros4]

/-- Case A, mask block. -/
theorem maskA : out0_A_2 c i a2 h2 a3 h3 a4 h4 a5 h5 hc x = k0_pay6 zero x := by
  unfold out0_A_2
  rw [View.read_writes_eq_canon _ _ _ (cover0_A_2 c i a2 h2 a3 h3 a4 h4 a5 h5 hc x)]
  unfold kernelRun0_A
  dsimp only
  sl_unfold_words
  rw [View.canon_unit_zero zeros3]
  simp only [View.readAt_eq_ld, h2.read_unread, View.ld_unit_zero (S := S1x16x384x192) zeros4]

/-- Case A, carry: zero plus the block's flags. -/
theorem carryA : sout0_A_0 c i a2 h2 a3 h3 a4 h4 a5 h5 hc x
    = fun _ => k0_pay2 zero (k0_pay4 x) := by
  unfold sout0_A_0
  rw [View.read_writes_eq_canon _ _ _ (scover0_A_0 c i a2 h2 a3 h3 a4 h4 a5 h5 hc x)]
  unfold kernelRun0_A
  dsimp only
  sl_unfold_words
  rw [View.canon_cons_unit_zero (S := S1) zeros1]
  simp only [View.readAt_eq_ld, h2.read_unread, View.ld_unit_zero (S := S1x16x384x192) zeros4]
  rfl

end CaseA

end Cert.KernelIdeal.Cases

end
-- ==== Proof.Block.lean ====
module

public import proofs.«01_k».proof.Proof.Gen.KernelIdeal.Skeleton
public import proofs.«01_k».proof.Proof.Count
public import Idealize.ShloMosaic.Lib.Pointwise

@[expose] public section

set_option maxRecDepth 16384

/-!
# One block of the kernel, entry by entry

A grid point handles 16 rows of one image. It holds the number of flagged positions of the rows
before (the carry), counts inside the block with two triangular products, and hands on the carry
plus all the block's flags. Here the block's results are read at an index, for a block that holds
rows `16 * j` to `16 * j + 15` of an image and a carry that counts all positions before it.
-/

noncomputable section

namespace Cert.KernelIdeal.Blk

open Cert.KernelIdeal Cert.KernelIdeal.Gen Idealize.ShloMosaic

/-- The block `x` holds the first channel of rows `16 * j + r` of the image `a`. -/
def Holds (a : Fin 384 → Fin 384 → EReal) (j : Fin 24) (x : Vec Ideal S1x16x384x192 .f32) : Prop :=
  ∀ (r : Fin 16) (w : Fin 384), x (ix4 0 r w 0) = a ⟨16 * j.val + r.val, by omega⟩ w

variable {a : Fin 384 → Fin 384 → EReal} {j : Fin 24} {x : Vec Ideal S1x16x384x192 .f32}

/-- The block's flags are the image's. -/
theorem flag_at (hx : Holds a j x) (r : Fin 16) (w : Fin 384) :
    k0_pay4 (F := Ideal) x (ix2 r w)
      = ((Count.fl a (6144 * j.val + 384 * r.val + w.val) : ℕ) : EReal) := by
  have hr := r.isLt
  have hj := j.isLt
  pointwise [k0_pay4, k0_pay3]
  rw [Count.bit_signed, hx r w,
    Count.fl_at a ⟨16 * j.val + r.val, by omega⟩ w _ (by show _ = 384 * (16 * j.val + r.val) + _; omega)]
  unfold Count.half
  simp only [decide_eq_true_eq]
  split_ifs <;> simp

/-- The sum of all the block's flags. -/
theorem flags_sum (hx : Holds a j x) :
    ∑ r : Fin 16, ∑ w : Fin 384, k0_pay4 (F := Ideal) x (ix2 r w)
      = ((∑ k ∈ Finset.range 6144, Count.fl a (6144 * j.val + k) : ℕ) : EReal) := by
  have row : ∀ r : Fin 16, ∑ w : Fin 384, k0_pay4 (F := Ideal) x (ix2 r w)
      = ((∑ k ∈ Finset.range 384, Count.fl a (6144 * j.val + 384 * r.val + k) : ℕ) : EReal) := by
    intro r
    rw [Finset.sum_congr rfl fun w _ => flag_at hx r w, ← Nat.cast_sum]
    exact congrArg _ (Fin.sum_univ_eq_sum_range
      (fun k => Count.fl a (6144 * j.val + 384 * r.val + k)) 384)
  rw [Finset.sum_congr rfl fun r _ => row r, ← Nat.cast_sum]
  refine congrArg _ ((Fin.sum_univ_eq_sum_range (fun r => ∑ k ∈ Finset.range 384,
    Count.fl a (6144 * j.val + 384 * r + k)) 16).trans ?_)
  exact Count.sum_rows 384 (Count.fl a) (6144 * j.val) 16

/-- The carry a block hands on counts all positions up to the block's end. -/
theorem carry_at (hx : Holds a j x) (c0 : Elt Ideal .f32)
    (hc : c0 = ((Count.cnt a (6144 * j.val) : ℕ) : EReal)) :
    k0_pay2 (F := Ideal) c0 (k0_pay4 x) = ((Count.cnt a (6144 * (j.val + 1)) : ℕ) : EReal) := by
  pointwise [k0_pay2]
  rw [flags_sum hx, hc, Nat.mul_succ, Count.cnt_add, Nat.cast_add]

/-- The block's mask is the image's. -/
theorem mask_at (hx : Holds a j x) (c0 : Elt Ideal .f32)
    (hc : c0 = ((Count.cnt a (6144 * j.val) : ℕ) : EReal)) (r : Fin 16) (w : Fin 384) :
    k0_pay5 (F := Ideal) c0 x (ix2 r w) = Count.mask a ⟨16 * j.val + r.val, by omega⟩ w := by
  have hr := r.isLt
  have hw := w.isLt
  have hj := j.isLt
  pointwise [k0_pay5]
  -- inside row `r`: the flags up to column `w`
  have inRow : ∀ (m : ℕ) (hm : m < 384) (i : Fin 16), ∑ k : Fin 384, k0_pay4 (F := Ideal) x (ix2 i k)
      * FloatOps.sitofp .f32 (BitVec.setWidth 32
          (IntOp.cmpi .sle (BitVec.ofNat 32 k.val) (BitVec.ofNat 32 m)))
      = ((∑ k ∈ Finset.range (m + 1), Count.fl a (6144 * j.val + 384 * i.val + k) : ℕ) : EReal) := by
    intro m hm i
    rw [← Count.sum_upto (N := 384) _ (m + 1) (by omega)]
    refine Finset.sum_congr rfl fun k _ => ?_
    have hk := k.isLt
    rw [flag_at hx i k, Count.sle_small _ _ (by omega) (by omega), Count.bit_signed]
    simp only [decide_eq_true_eq, Nat.lt_succ_iff]
  -- the rows above `r`
  have above : ∑ i : Fin 16, FloatOps.sitofp .f32 (BitVec.setWidth 32
        (IntOp.cmpi .slt (BitVec.ofNat 32 i.val) (BitVec.ofNat 32 r.val)))
      * ∑ k : Fin 384, k0_pay4 (F := Ideal) x (ix2 i k)
        * FloatOps.sitofp .f32 (BitVec.setWidth 32 (IntOp.cmpi .sle (BitVec.ofNat 32 k.val) 383#32))
      = ((∑ k ∈ Finset.range (384 * r.val), Count.fl a (6144 * j.val + k) : ℕ) : EReal) := by
    rw [← Count.sum_rows 384 (Count.fl a) (6144 * j.val) r.val,
      ← Count.sum_upto (N := 16) (fun i => ∑ k ∈ Finset.range 384,
        Count.fl a (6144 * j.val + 384 * i + k)) r.val (by omega)]
    refine Finset.sum_congr rfl fun i _ => ?_
    have hi := i.isLt
    rw [inRow 383 (by omega) i, Count.slt_small _ _ (by omega) (by omega), Count.bit_signed, mul_comm]
    simp only [decide_eq_true_eq]
  rw [inRow w.val hw r, above, hc, Count.quota, ← Nat.cast_add, ← Nat.cast_add]
  have total : (∑ k ∈ Finset.range (w.val + 1), Count.fl a (6144 * j.val + 384 * r.val + k))
      + (∑ k ∈ Finset.range (384 * r.val), Count.fl a (6144 * j.val + k))
      + Count.cnt a (6144 * j.val) = Count.cnt a (384 * (16 * j.val + r.val) + w.val + 1) := by
    rw [show 384 * (16 * j.val + r.val) + w.val + 1 = 6144 * j.val + 384 * r.val + (w.val + 1) by
      omega, Count.cnt_add, Count.cnt_add]
    omega
  rw [total, flag_at hx r w,
    Count.fl_at a ⟨16 * j.val + r.val, by omega⟩ w _ (by show _ = 384 * (16 * j.val + r.val) + _; omega),
    Count.bit_signed]
  unfold Count.mask
  simp only [decide_eq_true_eq, Nat.cast_le]
  split_ifs <;> simp_all

/-- The stored mask block at an index. -/
theorem maskStored_at (c0 : Elt Ideal .f32) (y : Vec Ideal S1x16x384x192 .f32)
    (r : Fin 16) (w : Fin 384) :
    k0_pay6 (F := Ideal) c0 y (ix3 0 r w) = k0_pay5 (F := Ideal) c0 y (ix2 r w) := by
  pointwise [k0_pay6]

/-- The stored output block at an index. -/
theorem outStored_at (c0 : Elt Ideal .f32) (y : Vec Ideal S1x16x384x192 .f32)
    (r : Fin 16) (w : Fin 384) (l : Fin 192) :
    k0_pay1 (F := Ideal) (k0_pay7 (F := Ideal) c0 y) (ix4 0 r w l)
      = y (ix4 0 r w l) * k0_pay5 (F := Ideal) c0 y (ix2 r w) := by
  pointwise [k0_pay1, k0_pay7, k0_pay3]

end Cert.KernelIdeal.Blk

end
-- ==== Proof.Value.lean ====
module

public import proofs.«01_k».proof.Proof.Cases
public import proofs.«01_k».proof.Proof.Block

@[expose] public section

set_option maxRecDepth 16384

/-!
# The kernel's two results

Grid point `t` handles rows `16 * (t % 24)` to `16 * (t % 24) + 15` of image `t / 24`, and the points
of one image follow one another. So the carry that enters point `t` counts the flagged positions of
the image's first `6144 * (t % 24)` positions; from this every block the kernel writes back is a
block of the whole result, and the blocks tile the two arrays.
-/

noncomputable section

namespace Cert.KernelIdeal.Whole

open Cert.KernelIdeal Cert.KernelIdeal.Gen Idealize.ShloMosaic Idealize.ShloMosaic.TcCoe
  Idealize.SL.Sem
open Idealize.ShloMosaic.Pipeline (Dat)

variable (m : (ℓ : Loc nD τ sig) → Buf (Elt Ideal) ℓ) (ρ : Dev nD → PrngReg)

/-- The kernel's argument on device `c`. -/
abbrev arg (c : Dev nD) : FVec Ideal S4x384x384x192 .f32 := m ((c.tc : Thread nD τ).loc main_arg0)

/-- The first channel of image `b`. -/
def img (c : Dev nD) (b : Fin 4) : Fin 384 → Fin 384 → EReal := fun h w => arg m c (ix4 b h w 0)

/-- The grid has 96 points. -/
theorem points (n : ℕ) (hn : n < cfg0.N) : n < 96 := lt_of_lt_of_eq hn N_0

/-- The image point `n` works on. -/
def image (n : ℕ) (hn : n < cfg0.N) : Fin 4 := ⟨n / 24, by have := points n hn; omega⟩

/-- The place of point `n` among its image's 24 points. -/
def place (n : ℕ) : Fin 24 := ⟨n % 24, Nat.mod_lt _ (by omega)⟩

/-- Where the input window stands at point `t`. -/
theorem index0 : ∀ t : Fin cfg0.N, win0_0.index t (0 : Fin 4) = t.val / 24
    ∧ win0_0.index t (1 : Fin 4) = t.val % 24 ∧ win0_0.index t (2 : Fin 4) = 0
    ∧ win0_0.index t (3 : Fin 4) = 0 :=
  (by decide +kernel : ∀ t : Fin grid0.N, _)

/-- Where the window of the masked array stands at point `t`. -/
theorem index1 : ∀ t : Fin cfg0.N, win0_1.index t (0 : Fin 4) = t.val / 24
    ∧ win0_1.index t (1 : Fin 4) = t.val % 24 ∧ win0_1.index t (2 : Fin 4) = 0
    ∧ win0_1.index t (3 : Fin 4) = 0 :=
  (by decide +kernel : ∀ t : Fin grid0.N, _)

/-- Where the window of the mask stands at point `t`. -/
theorem index2 : ∀ t : Fin cfg0.N, win0_2.index t (0 : Fin 3) = t.val / 24
    ∧ win0_2.index t (1 : Fin 3) = t.val % 24 ∧ win0_2.index t (2 : Fin 3) = 0 :=
  (by decide +kernel : ∀ t : Fin grid0.N, _)

/-- The input block of point `t`, as entries of the argument. -/
theorem block_at (c : Dev nD) (t : Fin cfg0.N) (r : Fin 16) (w : Fin 384) (l : Fin 192) :
    (iblk m c 0 t : Vec Ideal S1x16x384x192 .f32) (ix4 0 r w l)
      = arg m c (ix4 (image t.val t.isLt) ⟨16 * (place t.val).val + r.val, by omega⟩ w l) := by
  obtain ⟨e0, e1, e2, e3⟩ := index0 t
  unfold iblk
  rw [View.read_apply]
  show V m c main_arg0 _ = m (c.tc.loc main_arg0) _
  unfold V
  congr 1
  funext a
  apply Fin.ext
  match a with
  | ⟨0, _⟩ => show win0_0.index t (0 : Fin 4) * 1 + 1 * 0 = t.val / 24; omega
  | ⟨1, _⟩ => show win0_0.index t (1 : Fin 4) * 16 + 1 * r.val = 16 * (t.val % 24) + r.val; omega
  | ⟨2, _⟩ => show win0_0.index t (2 : Fin 4) * 384 + 1 * w.val = w.val; omega
  | ⟨3, _⟩ => show win0_0.index t (3 : Fin 4) * 192 + 1 * l.val = l.val; omega

/-- The input block of point `t` holds its rows of its image's first channel. -/
theorem holds (c : Dev nD) (t : Fin cfg0.N) :
    Blk.Holds (img m c (image t.val t.isLt)) (place t.val) (iblk m c 0 t) :=
  fun r w => block_at m c t r w 0

/-- The carry entering point `n`: the flagged positions of the image before the point's block. -/
def enter (c : Dev nD) (n : ℕ) (hn : n < cfg0.N) : EReal :=
  ((Count.cnt (img m c (image n hn)) (6144 * (place n).val) : ℕ) : EReal)

/-- At an image's first point nothing has been counted. -/
theorem enter_first (c : Dev nD) (n : ℕ) (hn : n < cfg0.N) (h : n % 24 = 0) :
    enter m c n hn = Cases.zero (F := Ideal) := by
  unfold enter
  rw [show 6144 * (place n).val = 0 by show 6144 * (n % 24) = 0; omega]
  show ((∑ k ∈ Finset.range 0, _ : ℕ) : EReal) = Ideal.ofBits .f32 0x00000000#32
  simp [Ideal.ofBits, Ideal.ieee]

/-- What every point leaves: the masked block, the mask block, and the next carry, all from the carry
entering the point. By induction along the points. -/
theorem point (c : Dev nD) : ∀ (n : ℕ) (hn : n < cfg0.N), outsAt0 m c n hn
    = (k0_pay1 (k0_pay7 (enter m c n hn) (iblk m c 0 ⟨n, hn⟩)),
        k0_pay6 (enter m c n hn) (iblk m c 0 ⟨n, hn⟩),
        fun _ => k0_pay2 (enter m c n hn) (k0_pay4 (iblk m c 0 ⟨n, hn⟩)))
  | 0, hn => by
    rw [outsAt0_A m c ⟨0, hn⟩ rfl, Cases.outA, Cases.maskA, Cases.carryA,
      enter_first m c 0 hn rfl]
  | n + 1, hn => by
    by_cases h : (n + 1) % 24 = 0
    · rw [outsAt0_A m c ⟨n + 1, hn⟩ h, Cases.outA, Cases.maskA, Cases.carryA,
        enter_first m c (n + 1) hn h]
    · have before : (outsAt0 m c n (Nat.lt_of_succ_lt hn)).2.2 (ix1 0) = enter m c (n + 1) hn := by
        have left := congrArg (fun o => o.2.2 (ix1 0)) (point c n (Nat.lt_of_succ_lt hn))
        refine left.trans ((Blk.carry_at (holds m c ⟨n, Nat.lt_of_succ_lt hn⟩)
          (enter m c n (Nat.lt_of_succ_lt hn)) rfl).trans ?_)
        unfold enter
        have e1 : image (n + 1) hn = image n (Nat.lt_of_succ_lt hn) :=
          Fin.ext (by show (n + 1) / 24 = n / 24; omega)
        have e2 : (place (n + 1)).val = (place n).val + 1 := by
          show (n + 1) % 24 = n % 24 + 1
          omega
        rw [e1, e2]
      rw [outsAt0_B m c ⟨n + 1, hn⟩ h, Cases.outB, Cases.maskB, Cases.carryB]
      show (k0_pay1 (k0_pay7 ((outsAt0 m c n _).2.2 (ix1 0)) _),
        k0_pay6 ((outsAt0 m c n _).2.2 (ix1 0)) _,
        fun _ => k0_pay2 ((outsAt0 m c n _).2.2 (ix1 0)) _) = _
      rw [before]

/-- The masked array. -/
def outArr (c : Dev nD) : Buf (Elt Ideal) ((c.tc : Thread nD τ).loc main_v0_0) :=
  fun (i : S4x384x384x192.Idx) => arg m c i * Count.mask (img m c (i 0)) (i 1) (i 2)

/-- The mask, still without its last axis of length one. -/
def maskArr (c : Dev nD) : Buf (Elt Ideal) ((c.tc : Thread nD τ).loc main_v0_1) :=
  fun (i : S4x384x384.Idx) => Count.mask (img m c (i 0)) (i 1) (i 2)

/-- Point `t` writes back block `t` of the masked array. -/
theorem flushed1 (c : Dev nD) (t : Fin cfg0.N) :
    (dats m 0 c).flushed 1 t = ((cfg0.win 1).blk t).view.read (Elt Ideal) (outArr m c) := by
  show (cfg0.win 1).cut (grid0.coords t) ((dats m 0 c).after 1 t) = _
  rw [after0_1, point]
  obtain ⟨e0, e1, e2, e3⟩ := index1 t
  funext y
  have y0 : (y 0).val < 1 := (y 0).isLt
  have y1 : (y 1).val < 16 := (y 1).isLt
  have y2 : (y 2).val < 384 := (y 2).isLt
  have y3 : (y 3).val < 192 := (y 3).isLt
  have hp : (place t.val).val < 24 := (place t.val).isLt
  have inner : (cfg0.win 1).xinj (grid0.coords t) y
      = ix4 (0 : Fin 1) (⟨(y 1).val, y1⟩ : Fin 16) (⟨(y 2).val, y2⟩ : Fin 384)
        (⟨(y 3).val, y3⟩ : Fin 192) := by
    funext a; apply Fin.ext
    match a with
    | ⟨0, _⟩ => show (y 0).val = 0; omega
    | ⟨1, _⟩ => rfl
    | ⟨2, _⟩ => rfl
    | ⟨3, _⟩ => rfl
  have outer : ((cfg0.win 1).blk t).view.emb y
      = ix4 (image t.val t.isLt) (⟨16 * (place t.val).val + (y 1).val, by omega⟩ : Fin 384)
        (⟨(y 2).val, y2⟩ : Fin 384) (⟨(y 3).val, y3⟩ : Fin 192) := by
    funext a; apply Fin.ext
    match a with
    | ⟨0, _⟩ => show win0_1.index t (0 : Fin 4) * 1 + 1 * (y 0).val = t.val / 24; omega
    | ⟨1, _⟩ =>
      show win0_1.index t (1 : Fin 4) * 16 + 1 * (y 1).val = 16 * (t.val % 24) + (y 1).val; omega
    | ⟨2, _⟩ => show win0_1.index t (2 : Fin 4) * 384 + 1 * (y 2).val = (y 2).val; omega
    | ⟨3, _⟩ => show win0_1.index t (3 : Fin 4) * 192 + 1 * (y 3).val = (y 3).val; omega
  show k0_pay1 (k0_pay7 (enter m c t.val t.isLt) (iblk m c 0 t))
      ((cfg0.win 1).xinj (grid0.coords t) y) = outArr m c (((cfg0.win 1).blk t).view.emb y)
  rw [inner, outer, Blk.outStored_at, block_at, Blk.mask_at (holds m c t) (enter m c t.val t.isLt) rfl]
  rfl

/-- Point `t` writes back block `t` of the mask. -/
theorem flushed2 (c : Dev nD) (t : Fin cfg0.N) :
    (dats m 0 c).flushed 2 t = ((cfg0.win 2).blk t).view.read (Elt Ideal) (maskArr m c) := by
  show (cfg0.win 2).cut (grid0.coords t) ((dats m 0 c).after 2 t) = _
  rw [after0_2, point]
  obtain ⟨e0, e1, e2⟩ := index2 t
  funext y
  have y0 : (y 0).val < 1 := (y 0).isLt
  have y1 : (y 1).val < 16 := (y 1).isLt
  have y2 : (y 2).val < 384 := (y 2).isLt
  have hp : (place t.val).val < 24 := (place t.val).isLt
  have inner : (cfg0.win 2).xinj (grid0.coords t) y
      = ix3 (0 : Fin 1) (⟨(y 1).val, y1⟩ : Fin 16) (⟨(y 2).val, y2⟩ : Fin 384) := by
    funext a; apply Fin.ext
    match a with
    | ⟨0, _⟩ => show (y 0).val = 0; omega
    | ⟨1, _⟩ => rfl
    | ⟨2, _⟩ => rfl
  have outer : ((cfg0.win 2).blk t).view.emb y
      = ix3 (image t.val t.isLt) (⟨16 * (place t.val).val + (y 1).val, by omega⟩ : Fin 384)
        (⟨(y 2).val, y2⟩ : Fin 384) := by
    funext a; apply Fin.ext
    match a with
    | ⟨0, _⟩ => show win0_2.index t (0 : Fin 3) * 1 + 1 * (y 0).val = t.val / 24; omega
    | ⟨1, _⟩ =>
      show win0_2.index t (1 : Fin 3) * 16 + 1 * (y 1).val = 16 * (t.val % 24) + (y 1).val; omega
    | ⟨2, _⟩ => show win0_2.index t (2 : Fin 3) * 384 + 1 * (y 2).val = (y 2).val; omega
  show k0_pay6 (enter m c t.val t.isLt) (iblk m c 0 t)
      ((cfg0.win 2).xinj (grid0.coords t) y) = maskArr m c (((cfg0.win 2).blk t).view.emb y)
  rw [inner, outer, Blk.maskStored_at, Blk.mask_at (holds m c t) (enter m c t.val t.isLt) rfl]
  rfl

/-- The point whose block holds row `h` of image `b`. -/
def pointOf (b : ℕ) (h : ℕ) (hb : b < 4) (hh : h < 384) : Fin cfg0.N :=
  ⟨24 * b + h / 16, lt_of_lt_of_eq (by omega : 24 * b + h / 16 < 96) N_0.symm⟩

/-- After the run the first array is the masked array: the blocks written back tile it. -/
theorem final1 (c : Dev nD) : (dats m 0 c).arrAt 1 cfg0.N = outArr m c :=
  (dats m 0 c).arrAt_eq_of_cover 1 _ (fun t _ => flushed1 m c t) fun i => by
    have i0 : (i 0).val < 4 := (i 0).isLt
    have i1 : (i 1).val < 384 := (i 1).isLt
    have i2 : (i 2).val < 384 := (i 2).isLt
    have i3 : (i 3).val < 192 := (i 3).isLt
    refine ⟨pointOf (i 0).val (i 1).val i0 i1, flush0_1 _, ?_⟩
    obtain ⟨e0, e1, e2, e3⟩ := index1 (pointOf (i 0).val (i 1).val i0 i1)
    have ev : (pointOf (i 0).val (i 1).val i0 i1).val = 24 * (i 0).val + (i 1).val / 16 := rfl
    rw [ev] at e0 e1
    show i ∈ ((View.whole main_v0_0).slice (win0_1.rect (pointOf (i 0).val (i 1).val i0 i1))).set
    rw [View.set_slice_whole, Rect.mem_set_unit]
    intro a
    match a with
    | ⟨0, _⟩ =>
      show win0_1.index _ (0 : Fin 4) * 1 ≤ (i 0).val
        ∧ (i 0).val < win0_1.index _ (0 : Fin 4) * 1 + 1
      rw [e0]; omega
    | ⟨1, _⟩ =>
      show win0_1.index _ (1 : Fin 4) * 16 ≤ (i 1).val
        ∧ (i 1).val < win0_1.index _ (1 : Fin 4) * 16 + 16
      rw [e1]; omega
    | ⟨2, _⟩ =>
      show win0_1.index _ (2 : Fin 4) * 384 ≤ (i 2).val
        ∧ (i 2).val < win0_1.index _ (2 : Fin 4) * 384 + 384
      rw [e2]; omega
    | ⟨3, _⟩ =>
      show win0_1.index _ (3 : Fin 4) * 192 ≤ (i 3).val
        ∧ (i 3).val < win0_1.index _ (3 : Fin 4) * 192 + 192
      rw [e3]; omega

/-- After the run the second array is the mask. -/
theorem final2 (c : Dev nD) : (dats m 0 c).arrAt 2 cfg0.N = maskArr m c :=
  (dats m 0 c).arrAt_eq_of_cover 2 _ (fun t _ => flushed2 m c t) fun i => by
    have i0 : (i 0).val < 4 := (i 0).isLt
    have i1 : (i 1).val < 384 := (i 1).isLt
    have i2 : (i 2).val < 384 := (i 2).isLt
    refine ⟨pointOf (i 0).val (i 1).val i0 i1, flush0_2 _, ?_⟩
    obtain ⟨e0, e1, e2⟩ := index2 (pointOf (i 0).val (i 1).val i0 i1)
    have ev : (pointOf (i 0).val (i 1).val i0 i1).val = 24 * (i 0).val + (i 1).val / 16 := rfl
    rw [ev] at e0 e1
    show i ∈ ((View.whole main_v0_1).slice (win0_2.rect (pointOf (i 0).val (i 1).val i0 i1))).set
    rw [View.set_slice_whole, Rect.mem_set_unit]
    intro a
    match a with
    | ⟨0, _⟩ =>
      show win0_2.index _ (0 : Fin 3) * 1 ≤ (i 0).val
        ∧ (i 0).val < win0_2.index _ (0 : Fin 3) * 1 + 1
      rw [e0]; omega
    | ⟨1, _⟩ =>
      show win0_2.index _ (1 : Fin 3) * 16 ≤ (i 1).val
        ∧ (i 1).val < win0_2.index _ (1 : Fin 3) * 16 + 16
      rw [e1]; omega
    | ⟨2, _⟩ =>
      show win0_2.index _ (2 : Fin 3) * 384 ≤ (i 2).val
        ∧ (i 2).val < win0_2.index _ (2 : Fin 3) * 384 + 384
      rw [e2]; omega

/-- The mask with its last axis of length one, as the kernel returns it. -/
def maskRes (c : Dev nD) : Buf (Elt Ideal) ((c.tc : Thread nD τ).loc main_v1) :=
  shapeCast S4x384x384x1 (maskArr m c : FVec Ideal S4x384x384 .f32)
    shapeCasts_S4x384x384_S4x384x384x1

/-- The reshape after the kernel reads the mask array. -/
theorem tail (c : Dev nD) :
    Pipeline.afterTail₀ cfgs (dats m) 0 (V0 m) [hostOps1] c main_v1 = maskRes m c := by
  unfold Pipeline.afterTail₀
  show StableHlo.after hostOps1 _ (Proc.devRef .tc main_v1) = _
  after_results
  have e := Pipeline.withArrays_arr spec0 launch0.win.arr_inj c (V0 m c)
    (fun w => (dats m 0 c).arrAt w cfg0.N) 2
  rw [final2] at e
  unfold maskRes
  rw [← e]
  rfl

/-- Every run of the kernel ends with the masked array and the mask in its results and its argument
unchanged. -/
theorem run : θ_run defs (onTc (τ := τ) (main (F := Ideal))) ⟨m, fun _ => 0, ρ⟩ fun r =>
    ∀ c : Dev nD, r.2.mem ((c.tc : Thread nD τ).loc main_v0_0) = outArr m c
      ∧ r.2.mem ((c.tc : Thread nD τ).loc main_v1) = maskRes m c
      ∧ r.2.mem ((c.tc : Thread nD τ).loc main_arg0) = m ((c.tc : Thread nD τ).loc main_arg0) :=
  (θ_run defs _ _).mono (fun r h c =>
    ⟨((h c).1 1).trans (final1 m c),
      ((h c).2 main_v1 (by decide)).trans (tail m c),
      ((h c).1 0).trans (((dats m 0 c).arrAt_in 0 rfl _).trans
        ((A_eq m c 0).trans (V_main_arg0 m c)))⟩) (run_main m ρ)

end Cert.KernelIdeal.Whole

end
-- ==== Proof.lean ====
/-
  The kernel v00 and its reference: all five claims of `Cert.Claim`.

  `Proof/Count.lean`    what both programs compute, in natural numbers
  `Proof/RefValue.lean` the reference's two results, entry by entry
  `Proof/Block.lean`    one block of the kernel, entry by entry
  `Proof/Cases.lean`    what one run of the kernel body leaves
  `Proof/Value.lean`    the kernel's two results
-/
module

public import proofs.«01_k».proof.Defs
public import proofs.«01_k».proof.Proof.Gen.Kernel.Frame
public import proofs.«01_k».proof.Proof.RefValue
public import proofs.«01_k».proof.Proof.Value
public import Idealize.ShloMosaic.Lib.Quiescent
public import Idealize.ShloMosaic.Lib.Claim

@[expose] public section

noncomputable section

namespace Cert.Proof

open Idealize.ShloMosaic Idealize.SL.Sem

/-- The kernel's mask is the reference's. -/
theorem mask_eq (m : (ℓ : Loc KernelIdeal.nD KernelIdeal.τ KernelIdeal.sig) → Buf (Elt Ideal) ℓ)
    (c : Dev KernelIdeal.nD) :
    ReferenceIdeal.Read.maskOf (KernelIdeal.Whole.arg m c) = KernelIdeal.Whole.maskRes m c := by
  funext i
  idx_vars i
  obtain rfl : i3 = 0 := Subsingleton.elim _ _
  refine (ReferenceIdeal.Read.mask_at (KernelIdeal.Whole.arg m c) i0 i1 i2).trans ?_
  unfold KernelIdeal.Whole.maskRes
  pointwise
  rfl

/-- The kernel's masked array is the reference's. -/
theorem out_eq (m : (ℓ : Loc KernelIdeal.nD KernelIdeal.τ KernelIdeal.sig) → Buf (Elt Ideal) ℓ)
    (c : Dev KernelIdeal.nD) :
    ReferenceIdeal.Read.outOf (KernelIdeal.Whole.arg m c) = KernelIdeal.Whole.outArr m c := by
  funext i
  idx_vars i
  exact ReferenceIdeal.Read.out_at (KernelIdeal.Whole.arg m c) i0 i1 i2 i3

/-- The reference ends with its argument unchanged and every counter at zero. -/
theorem quiescent_ref : Cert.quiescent_ReferenceIdeal := fun m ρ _ =>
  (θ_run _ _ _).mono (fun r h => ⟨fun c => (h c).2.2, sem_eq_zero_of_no_sems (by decide) r.2⟩)
    (ReferenceIdeal.Read.run m ρ)

/-- From the same argument the kernel and the reference end with the same two results. -/
theorem algebraic : Cert.algebraic_KernelIdeal_ReferenceIdeal := by
  intro m g m' g' _ agree
  refine ⟨KernelIdeal.Whole.outArr m, KernelIdeal.Whole.maskRes m, KernelIdeal.Whole.run m g, ?_⟩
  refine (θ_run _ _ _).mono (fun r h c => ?_) (ReferenceIdeal.Read.run m' g')
  obtain ⟨out, msk, kept⟩ := h c
  rw [agree c] at out msk
  exact ⟨out.trans (out_eq m c), msk.trans (mask_eq m c), kept⟩

/-- Both programs run without fault and leave their argument as it was, and they end with the same
two results. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    quiescent_ref, trivial, algebraic⟩

end Cert.Proof

end
